-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_zero_over_zero [hPre_finite_and_no_zero_over_zero : Cert.Pre_finite_and_no_zero_over_zero.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_zero_over_zero.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_zero_over_zero [hPre_finite_and_no_zero_over_zero : Cert.Pre_finite_and_no_zero_over_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_zero_over_zero.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_and_no_zero_over_zero [hKernelIdeal : Cert.KernelIdeal.Facts] [hPre_finite_and_no_zero_over_zero : Cert.Pre_finite_and_no_zero_over_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_zero_over_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_and_no_zero_over_zero [hReferenceIdeal : Cert.ReferenceIdeal.Facts] [hPre_finite_and_no_zero_over_zero : Cert.Pre_finite_and_no_zero_over_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_zero_over_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "scale" .f32 0x3FD391C0#32 ((19742720 / 11944397 : ℝ) : EReal)

def algebraic_KernelIdeal_ReferenceIdeal_pre_finite_and_no_zero_over_zero [hKernelIdeal : Cert.KernelIdeal.Facts] [hReferenceIdeal : Cert.ReferenceIdeal.Facts] [hPre_finite_and_no_zero_over_zero : Cert.Pre_finite_and_no_zero_over_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_zero_over_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_and_no_zero_over_zero : Cert.Pre_finite_and_no_zero_over_zero.Facts),
    quiescent_Kernel (hKernel := hKernel)
    ∧ quiescent_KernelIdeal (hKernelIdeal := hKernelIdeal)
    ∧ quiescent_KernelIdeal_pre_finite_and_no_zero_over_zero (hKernelIdeal := hKernelIdeal) (hPre_finite_and_no_zero_over_zero := hPre_finite_and_no_zero_over_zero)
    ∧ quiescent_ReferenceIdeal (hReferenceIdeal := hReferenceIdeal)
    ∧ quiescent_ReferenceIdeal_pre_finite_and_no_zero_over_zero (hReferenceIdeal := hReferenceIdeal) (hPre_finite_and_no_zero_over_zero := hPre_finite_and_no_zero_over_zero)
    ∧ preserves_Kernel_KernelIdeal
    ∧ algebraic_KernelIdeal_ReferenceIdeal_pre_finite_and_no_zero_over_zero (hKernelIdeal := hKernelIdeal) (hReferenceIdeal := hReferenceIdeal) (hPre_finite_and_no_zero_over_zero := hPre_finite_and_no_zero_over_zero)
-- ==== Pre_finite_and_no_zero_over_zero.lean ====
abbrev S4x1x1024x1024 : Shape := ⟨4, ![4, 1, 1024, 1024]⟩
abbrev S_ : Shape := ⟨0, ![]⟩

class Facts : Prop where
  bcast_S_S_ : S_.BroadcastsInDim S_ (![] : Fin 0 → Fin S_.rank)
  reduceWindows_S4x1x1024x1024_S4x1x1024x1024_w1s1p0_0_w1s1p0_0_w161s1p80_80_w1s1p0_0 : S4x1x1024x1024.ReduceWindows (![1, 1, 161, 1] : Fin 4 → Nat) ![1, 1, 1, 1] ![0, 0, 80, 0] ![0, 0, 80, 0] S4x1x1024x1024
  h_S_ : 0 < S_.numel
  reduceWindows_S4x1x1024x1024_S4x1x1024x1024_w1s1p0_0_w1s1p0_0_w1s1p0_0_w161s1p80_80 : S4x1x1024x1024.ReduceWindows (![1, 1, 1, 161] : Fin 4 → Nat) ![1, 1, 1, 1] ![0, 0, 0, 80] ![0, 0, 0, 80] S4x1x1024x1024
  reduceWindows_S4x1x1024x1024_S4x1x1024x1024_w1s1p0_0_w1s1p0_0_w321s1p160_160_w1s1p0_0 : S4x1x1024x1024.ReduceWindows (![1, 1, 321, 1] : Fin 4 → Nat) ![1, 1, 1, 1] ![0, 0, 160, 0] ![0, 0, 160, 0] S4x1x1024x1024
  reduceWindows_S4x1x1024x1024_S4x1x1024x1024_w1s1p0_0_w1s1p0_0_w1s1p0_0_w321s1p160_160 : S4x1x1024x1024.ReduceWindows (![1, 1, 1, 321] : Fin 4 → Nat) ![1, 1, 1, 1] ![0, 0, 0, 160] ![0, 0, 0, 160] S4x1x1024x1024
  bcast_S_S4x1x1024x1024 : S_.BroadcastsInDim S4x1x1024x1024 (![] : Fin 0 → Fin S4x1x1024x1024.rank)
  reducesTo_S4x1x1024x1024_S_d0_1_2_3 : S4x1x1024x1024.ReducesTo [0, 1, 2, 3] S_

variable [Facts]

def fn_part1 {F : FTy → Type} [FloatOps F] (main_v8 : FVec F S4x1x1024x1024 .f32) (main_v12 : IVec S_ 1) (main_v14 : IVec S4x1x1024x1024 1) (main_v15 : FVec F S4x1x1024x1024 .f32) : IVec S_ 1 :=
  let main_v16 : IVec S4x1x1024x1024 1 := cmpf .une main_v8 main_v15
  let main_v17 : IVec S4x1x1024x1024 1 := ori main_v14 main_v16
  let main_c_6 : IVec S_ 1 := constantI S_ 1 1#1
  let main_v18 : IVec S_ 1 := (fun x v => Host.reduce IntOp.andi x v reducesTo_S4x1x1024x1024_S_d0_1_2_3 h_S_) main_v17 main_c_6
  let main_v19 : IVec S_ 1 := andi main_v12 main_v18
  main_v19

def fn {F : FTy → Type} [FloatOps F] (main_arg0 : FVec F S4x1x1024x1024 .f32) : IVec S_ 1 :=
  let main_cst : FVec F S_ .f32 := constant S_ .f32 0x00000000#32
  let main_v0 : FVec F S_ .f32 := broadcastInDim S_ ![] bcast_S_S_ main_cst
  let main_v1 : FVec F S4x1x1024x1024 .f32 := (fun x v => Host.reduceWindowAdd ![1, 1, 161, 1] ![1, 1, 1, 1] ![0, 0, 80, 0] ![0, 0, 80, 0] x v reduceWindows_S4x1x1024x1024_S4x1x1024x1024_w1s1p0_0_w1s1p0_0_w161s1p80_80_w1s1p0_0 h_S_) main_arg0 main_v0
  let main_cst_0 : FVec F S_ .f32 := constant S_ .f32 0x00000000#32
  let main_v2 : FVec F S_ .f32 := broadcastInDim S_ ![] bcast_S_S_ main_cst_0
  let main_v3 : FVec F S4x1x1024x1024 .f32 := (fun x v => Host.reduceWindowAdd ![1, 1, 1, 161] ![1, 1, 1, 1] ![0, 0, 0, 80] ![0, 0, 0, 80] x v reduceWindows_S4x1x1024x1024_S4x1x1024x1024_w1s1p0_0_w1s1p0_0_w1s1p0_0_w161s1p80_80 h_S_) main_v1 main_v2
  let main_cst_1 : FVec F S_ .f32 := constant S_ .f32 0x00000000#32
  let main_v4 : FVec F S_ .f32 := broadcastInDim S_ ![] bcast_S_S_ main_cst_1
  let main_v5 : FVec F S4x1x1024x1024 .f32 := (fun x v => Host.reduceWindowAdd ![1, 1, 321, 1] ![1, 1, 1, 1] ![0, 0, 160, 0] ![0, 0, 160, 0] x v reduceWindows_S4x1x1024x1024_S4x1x1024x1024_w1s1p0_0_w1s1p0_0_w321s1p160_160_w1s1p0_0 h_S_) main_arg0 main_v4
  let main_cst_2 : FVec F S_ .f32 := constant S_ .f32 0x00000000#32
  let main_v6 : FVec F S_ .f32 := broadcastInDim S_ ![] bcast_S_S_ main_cst_2
  let main_v7 : FVec F S4x1x1024x1024 .f32 := (fun x v => Host.reduceWindowAdd ![1, 1, 1, 321] ![1, 1, 1, 1] ![0, 0, 0, 160] ![0, 0, 0, 160] x v reduceWindows_S4x1x1024x1024_S4x1x1024x1024_w1s1p0_0_w1s1p0_0_w1s1p0_0_w321s1p160_160 h_S_) main_v5 main_v6
  let main_v8 : FVec F S4x1x1024x1024 .f32 := subf main_v7 main_v3
  let main_v9 : FVec F S4x1x1024x1024 .f32 := Host.absf main_arg0
  let main_cst_3 : FVec F S_ .f32 := constant S_ .f32 0x7F800000#32
  let main_v10 : FVec F S4x1x1024x1024 .f32 := broadcastInDim S4x1x1024x1024 ![] bcast_S_S4x1x1024x1024 main_cst_3
  let main_v11 : IVec S4x1x1024x1024 1 := cmpf .olt main_v9 main_v10
  let main_c : IVec S_ 1 := constantI S_ 1 1#1
  let main_v12 : IVec S_ 1 := (fun x v => Host.reduce IntOp.andi x v reducesTo_S4x1x1024x1024_S_d0_1_2_3 h_S_) main_v11 main_c
  let main_cst_4 : FVec F S_ .f32 := constant S_ .f32 0x00000000#32
  let main_v13 : FVec F S4x1x1024x1024 .f32 := broadcastInDim S4x1x1024x1024 ![] bcast_S_S4x1x1024x1024 main_cst_4
  let main_v14 : IVec S4x1x1024x1024 1 := cmpf .une main_v3 main_v13
  let main_cst_5 : FVec F S_ .f32 := constant S_ .f32 0x00000000#32
  let main_v15 : FVec F S4x1x1024x1024 .f32 := broadcastInDim S4x1x1024x1024 ![] bcast_S_S4x1x1024x1024 main_cst_5
  fn_part1 (F := F) main_v8 main_v12 main_v14 main_v15
-- ==== Kernel.lean ====
abbrev S4x1x1024x1024 : Shape := ⟨4, ![4, 1, 1024, 1024]⟩
abbrev S1x1x1024x1024 : Shape := ⟨4, ![1, 1, 1024, 1024]⟩
abbrev S256x256 : Shape := ⟨2, ![256, 256]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩
abbrev S1023x1024 : Shape := ⟨2, ![1023, 1024]⟩
abbrev S512x256 : Shape := ⟨2, ![512, 256]⟩
abbrev S1024x512 : Shape := ⟨2, ![1024, 512]⟩
abbrev S768x256 : Shape := ⟨2, ![768, 256]⟩
abbrev S1024x768 : Shape := ⟨2, ![1024, 768]⟩
abbrev S864x1024 : Shape := ⟨2, ![864, 1024]⟩
abbrev S160x1024 : Shape := ⟨2, ![160, 1024]⟩
abbrev S944x1024 : Shape := ⟨2, ![944, 1024]⟩
abbrev S80x1024 : Shape := ⟨2, ![80, 1024]⟩
abbrev S1024x944 : Shape := ⟨2, ![1024, 944]⟩
abbrev S1024x80 : Shape := ⟨2, ![1024, 80]⟩
abbrev S1024x81 : Shape := ⟨2, ![1024, 81]⟩
abbrev S1024x943 : Shape := ⟨2, ![1024, 943]⟩

abbrev nBuf : Space → Nat
  | .hbm => 2
  | .vmem => 4
  | .smem => 0
  | _ => 0

abbrev bufTy : (tb : Table) → Fin (tcTables nBuf tb) → BufTy
  | .hbm, ⟨0, _⟩ => ⟨S4x1x1024x1024, .f32⟩
  | .hbm, ⟨1, _⟩ => ⟨S4x1x1024x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | _, _ => ⟨S4x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "scale" => some ((19742720 / 11944397 : ℝ) : EReal)
  | _ => none
-- ==== ReferenceIdeal.lean ====
abbrev S4x1x1024x1024 : Shape := ⟨4, ![4, 1, 1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x1x1024x1024, .f32⟩
  | .hbm, ⟨1, _⟩ => ⟨S_, .f32⟩
  | .hbm, ⟨2, _⟩ => ⟨S_, .f32⟩
  | .hbm, ⟨3, _⟩ => ⟨S4x1x1024x1024, .f32⟩
  | .hbm, ⟨4, _⟩ => ⟨S_, .f32⟩
  | .hbm, ⟨5, _⟩ => ⟨S_, .f32⟩
  | .hbm, ⟨6, _⟩ => ⟨S4x1x1024x1024, .f32⟩
  | .hbm, ⟨7, _⟩ => ⟨S_, .f32⟩
  | .hbm, ⟨8, _⟩ => ⟨S_, .f32⟩
  | .hbm, ⟨9, _⟩ => ⟨S4x1x1024x1024, .f32⟩
  | .hbm, ⟨10, _⟩ => ⟨S_, .f32⟩
  | .hbm, ⟨11, _⟩ => ⟨S_, .f32⟩
  | .hbm, ⟨12, _⟩ => ⟨S4x1x1024x1024, .f32⟩
  | .hbm, ⟨13, _⟩ => ⟨S4x1x1024x1024, .f32⟩
  | .hbm, ⟨14, _⟩ => ⟨S_, .f32⟩
  | .hbm, ⟨15, _⟩ => ⟨S4x1x1024x1024, .f32⟩
  | .hbm, ⟨16, _⟩ => ⟨S4x1x1024x1024, .f32⟩
  | .hbm, ⟨17, _⟩ => ⟨S_, .f32⟩
  | .hbm, ⟨18, _⟩ => ⟨S4x1x1024x1024, .f32⟩
  | .hbm, ⟨19, _⟩ => ⟨S4x1x1024x1024, .f32⟩
  | .hbm, ⟨20, _⟩ => ⟨S4x1x1024x1024, .f32⟩
  | _, _ => ⟨S4x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Sums.lean ====
module

public import Idealize.ShloMosaic.Lib.Pointwise

@[expose] public section

/-!
# Finite sums of reals, as the kernel and the reference take them

The kernel adds up prefixes in blocks and subtracts prefixes; the reference adds up windows. All of it is done here on
functions from the naturals to the reals, together with the reading of a 0/1 mask of index words as a condition.
-/

noncomputable section

open Idealize.ShloMosaic

namespace Cert.Box

/-- The sum of `g` over the window of radius `p` around `i`. -/
def win (p : ℕ) (g : ℕ → ℝ) (i : ℕ) : ℝ := ∑ k ∈ Finset.Ico (i - p) (i + p + 1), g k

/-- The sum of `g` over the first `n` naturals. -/
def pre (g : ℕ → ℝ) (n : ℕ) : ℝ := ∑ k ∈ Finset.range n, g k

/-- A finite sum of reals is the same sum taken over the extended reals. -/
theorem coe_sum {ι : Type} (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

/-- A window is a difference of two prefixes. -/
theorem pre_sub_pre (p : ℕ) (g : ℕ → ℝ) (i : ℕ) : pre g (i + p + 1) - pre g (i - p) = win p g i :=
  (Finset.sum_Ico_eq_sub g (by omega)).symm

/-- Where `g` vanishes from `n` on, a longer prefix is the prefix of length `n`. -/
theorem pre_of_le (g : ℕ → ℝ) (n k : ℕ) (hg : ∀ r, n ≤ r → g r = 0) (h : n ≤ k) : pre g k = pre g n := by
  refine (Finset.sum_subset (fun r hr => Finset.mem_range.2 ((Finset.mem_range.1 hr).trans_le h)) fun r _ hr => ?_).symm
  exact hg r (not_lt.1 fun hlt => hr (Finset.mem_range.2 hlt))

/-- The masked sum over a block from `o`, plus the prefix before the block, is the prefix that ends in the block. -/
theorem pre_block (g : ℕ → ℝ) (o r n : ℕ) (h : r < n) :
    (∑ k ∈ Finset.range n, if k ≤ r then g (o + k) else 0) + pre g o = pre g (o + r + 1) := by
  have e : (∑ k ∈ Finset.range n, if k ≤ r then g (o + k) else 0) = ∑ k ∈ Finset.range (r + 1), g (o + k) := by
    rw [← Finset.sum_filter]
    refine Finset.sum_congr (Finset.ext fun k => ?_) fun _ _ => rfl
    rw [Finset.mem_filter, Finset.mem_range, Finset.mem_range]
    omega
  rw [e, add_comm, pre, pre, add_assoc, Finset.sum_range_add g o (r + 1)]

/-- The masked sum over a block that holds the window around `j` is the window's sum. -/
theorem win_block (p : ℕ) (g : ℕ → ℝ) (o j n : ℕ) (ho : o ≤ j - p) (hg : ∀ k, o + n ≤ k → k < j + p + 1 → g k = 0) :
    (∑ k ∈ Finset.range n, if o + k ≤ j + p ∧ j ≤ o + k + p then g (o + k) else 0) = win p g j := by
  have e : (∑ k ∈ Finset.range n, if o + k ≤ j + p ∧ j ≤ o + k + p then g (o + k) else 0)
      = ∑ k ∈ Finset.Ico o (o + n), if k ≤ j + p ∧ j ≤ k + p then g k else 0 := by
    rw [Finset.sum_Ico_eq_sum_range, Nat.add_sub_cancel_left]
  rw [e, ← Finset.sum_filter, win]
  refine Finset.sum_subset (fun k hk => ?_) fun k hk hk' => ?_
  · rw [Finset.mem_filter, Finset.mem_Ico] at hk
    rw [Finset.mem_Ico]
    omega
  · rw [Finset.mem_Ico] at hk
    rw [Finset.mem_filter, Finset.mem_Ico] at hk'
    exact hg k (by omega) (by omega)

/-- A window of prefixes is the prefix of windows. -/
theorem win_pre (p : ℕ) (f : ℕ → ℕ → ℝ) (n j : ℕ) : win p (fun q => pre (fun r => f r q) n) j = pre (fun r => win p (f r) j) n :=
  Finset.sum_comm

/-- Prefixes along the two axes commute. -/
theorem pre_pre (f : ℕ → ℕ → ℝ) (m n : ℕ) : pre (fun q => pre (fun r => f r q) n) m = pre (fun r => pre (f r) m) n :=
  Finset.sum_comm

/-- Windows along the two axes commute. -/
theorem win_win (p : ℕ) (f : ℕ → ℕ → ℝ) (i j : ℕ) : win p (fun q => win p (fun r => f r q) i) j = win p (fun r => win p (f r) j) i :=
  Finset.sum_comm

/-- A window of zeros sums to zero. -/
theorem win_zero (p : ℕ) (g : ℕ → ℝ) (i : ℕ) (hg : ∀ r, g r = 0) : win p g i = 0 := Finset.sum_eq_zero fun r _ => hg r

/-- A prefix of zeros sums to zero. -/
theorem pre_zero (g : ℕ → ℝ) (n : ℕ) (hg : ∀ r, g r = 0) : pre g n = 0 := Finset.sum_eq_zero fun r _ => hg r

/-- The signed value of the word of a small natural. -/
theorem toInt_small (n : ℕ) (h : n < 2048) : (BitVec.ofNat 32 n).toInt = n := by
  rw [BitVec.toInt_eq_toNat_cond, BitVec.toNat_ofNat]
  omega

/-- A choice by `≥` of two small index words. -/
theorem select_sge {α : Type} (i k : ℕ) (hi : i < 2048) (hk : k < 2048) (x y : α) :
    Scalar.select (IntOp.cmpi .sge (BitVec.ofNat 32 i) (BitVec.ofNat 32 k)) x y = if k ≤ i then x else y := by
  have e : IntOp.cmpi .sge (BitVec.ofNat 32 i) (BitVec.ofNat 32 k) = BitVec.ofBool (decide (k ≤ i)) := by
    simp [IntOp.cmpi, BitVec.sle, toInt_small, hi, hk]
  by_cases h : k ≤ i <;> simp [Scalar.select, e, h]

/-- A choice by `≤` of two small index words. -/
theorem select_sle {α : Type} (i k : ℕ) (hi : i < 2048) (hk : k < 2048) (x y : α) :
    Scalar.select (IntOp.cmpi .sle (BitVec.ofNat 32 k) (BitVec.ofNat 32 i)) x y = if k ≤ i then x else y := by
  have e : IntOp.cmpi .sle (BitVec.ofNat 32 k) (BitVec.ofNat 32 i) = BitVec.ofBool (decide (k ≤ i)) := by
    simp [IntOp.cmpi, BitVec.sle, toInt_small, hi, hk]
  by_cases h : k ≤ i <;> simp [Scalar.select, e, h]

/-- A choice by the distance of two small index words, each the sum of a coordinate and an offset. -/
theorem select_dist {α : Type} (u o v q : ℕ) (hu : o + u < 2048) (hv : q + v < 2048) (x y : α) :
    Scalar.select (IntOp.cmpi .sle (IntOp.absi (IntOp.subi (IntOp.addi (BitVec.ofNat 32 u) (BitVec.ofNat 32 o))
      (IntOp.addi (BitVec.ofNat 32 v) (BitVec.ofNat 32 q)))) 160#32) x y
      = if o + u ≤ q + v + 160 ∧ q + v ≤ o + u + 160 then x else y := by
  have e : IntOp.cmpi .sle (IntOp.absi (IntOp.subi (IntOp.addi (BitVec.ofNat 32 u) (BitVec.ofNat 32 o))
      (IntOp.addi (BitVec.ofNat 32 v) (BitVec.ofNat 32 q)))) 160#32
      = BitVec.ofBool (decide (o + u ≤ q + v + 160 ∧ q + v ≤ o + u + 160)) := by
    have ea : (IntOp.absi (IntOp.subi (IntOp.addi (BitVec.ofNat 32 u) (BitVec.ofNat 32 o))
        (IntOp.addi (BitVec.ofNat 32 v) (BitVec.ofNat 32 q)))).toInt = |((o + u : ℕ) : ℤ) - (q + v : ℕ)| := by
      have hs : (IntOp.subi (IntOp.addi (BitVec.ofNat 32 u) (BitVec.ofNat 32 o))
          (IntOp.addi (BitVec.ofNat 32 v) (BitVec.ofNat 32 q))).toInt = ((o + u : ℕ) : ℤ) - (q + v : ℕ) := by
        rw [IntOp.subi, IntOp.addi, IntOp.addi, ← BitVec.ofNat_add, ← BitVec.ofNat_add, BitVec.toInt_sub,
          toInt_small _ (by omega), toInt_small _ (by omega), Int.bmod_def]
        omega
      rw [IntOp.absi, BitVec.msb_eq_toInt]
      generalize IntOp.subi _ _ = w at hs ⊢
      by_cases hn : w.toInt < 0
      · rw [if_pos (by simpa using hn), BitVec.toInt_neg, hs, Int.bmod_def]
        rw [hs] at hn
        rw [abs_of_neg hn]
        omega
      · rw [if_neg (by simpa using hn), hs]
        rw [hs] at hn
        rw [abs_of_nonneg (not_lt.1 hn)]
    simp only [IntOp.cmpi, BitVec.sle, ea, abs_le]
    congr 1
    rw [decide_eq_decide]
    have : (160#32).toInt = 160 := by decide
    rw [this]
    omega
  by_cases h : o + u ≤ q + v + 160 ∧ q + v ≤ o + u + 160 <;> simp [Scalar.select, e, h]

/-- A sum over a block of real entries, each kept or replaced by zero, is the masked real sum. -/
theorem sum_masked (n : ℕ) (c : ℕ → Prop) [DecidablePred c] (f : ℕ → ℝ) (F : Fin n → EReal)
    (hF : ∀ k : Fin n, F k = if c k then (f k : EReal) else 0) :
    ∑ k : Fin n, F k = ((∑ k ∈ Finset.range n, if c k then f k else 0 : ℝ) : EReal) := by
  rw [coe_sum, ← Fin.sum_univ_eq_sum_range (fun k => ((if c k then f k else 0 : ℝ) : EReal)) n]
  refine Finset.sum_congr rfl fun k _ => (hF k).trans ?_
  split <;> rfl

end Cert.Box

end
-- ==== Proof.Columns.lean ====
module

public import proofs.«01_k».proof.Proof.Gen.KernelIdeal.Skeleton
public import proofs.«01_k».proof.Proof.Sums

@[expose] public section

set_option maxRecDepth 16384

/-!
# The column sums and the integral image of one block

The kernel's running sum down the columns, made of four blocks of rows, and its running sum of that along the rows,
made of four blocks of columns, read at an index.
-/

noncomputable section

open Idealize.ShloMosaic Idealize.ShloMosaic.TcCoe Idealize.SL.Sem
open Cert.KernelIdeal Cert.KernelIdeal.Gen

namespace Cert.Box

variable (v10 : Vec Ideal S1x1x1024x1024 .f32) (a : ℕ → ℕ → ℝ)

/-- A lower-triangular mask over a block of entries: the real sum of the entries up to `r`. -/
theorem sum_lower (r : ℕ) (hr : r < 256) (f : ℕ → ℝ) (F : Fin 256 → EReal) (hF : ∀ k, F k = f k) :
    ∑ k : Fin 256, Scalar.select (IntOp.cmpi .sge (BitVec.ofNat 32 r) (BitVec.ofNat 32 k)) (F k) 0
      = ((∑ k ∈ Finset.range 256, if k ≤ r then f k else 0 : ℝ) : EReal) :=
  sum_masked 256 (· ≤ r) f _ fun k => by rw [select_sge _ _ (by omega) (by omega), hF]

/-- An upper-triangular mask over a block of entries: the real sum of the entries up to `r`. -/
theorem sum_upper (r : ℕ) (hr : r < 256) (f : ℕ → ℝ) (F : Fin 256 → EReal) (hF : ∀ k, F k = f k) :
    ∑ k : Fin 256, Scalar.select (IntOp.cmpi .sle (BitVec.ofNat 32 k) (BitVec.ofNat 32 r)) (F k) 0
      = ((∑ k ∈ Finset.range 256, if k ≤ r then f k else 0 : ℝ) : EReal) :=
  sum_masked 256 (· ≤ r) f _ fun k => by rw [select_sle _ _ (by omega) (by omega), hF]

/-- The running sum down the columns. -/
theorem cols_at (hx : ∀ r c : Fin 1024, v10 (ix4 0 0 r c) = (a r c : EReal)) (i j : Fin 1024) :
    k0_pay3 (F := Ideal) v10 (ix2 i j) = ((pre (fun r => a r j) (i + 1) : ℝ) : EReal) := by
  have b0 := fun r hr => sum_lower r hr (fun k => a (0 + k) j) (fun k => v10 (ix4 0 0 ⟨k, by omega⟩ j)) fun k => by rw [hx]; simp
  have b1 := fun r hr => sum_lower r hr (fun k => a (256 + k) j) (fun k => v10 (ix4 0 0 ⟨256 + k, by omega⟩ j)) fun k => hx _ _
  have b2 := fun r hr => sum_lower r hr (fun k => a (512 + k) j) (fun k => v10 (ix4 0 0 ⟨512 + k, by omega⟩ j)) fun k => hx _ _
  have b3 := fun r hr => sum_lower r hr (fun k => a (768 + k) j) (fun k => v10 (ix4 0 0 ⟨768 + k, by omega⟩ j)) fun k => hx _ _
  have p0 := fun r hr => pre_block (fun r => a r j) 0 r 256 hr
  have p1 := fun r hr => pre_block (fun r => a r j) 256 r 256 hr
  have p2 := fun r hr => pre_block (fun r => a r j) 512 r 256 hr
  have p3 := fun r hr => pre_block (fun r => a r j) 768 r 256 hr
  have e0 : pre (fun r => a r j) 0 = 0 := rfl
  simp only [e0, add_zero] at p0
  pointwise [k0_pay3]
  by_cases h0 : (i : ℕ) < 256
  · rw [dif_pos h0, b0 _ h0, p0 _ h0, Nat.zero_add]
  rw [dif_neg h0]
  by_cases h1 : (i : ℕ) - 256 < 256
  · rw [dif_pos h1, b0 255 (by omega), b1 _ h1, p0 255 (by omega), ← EReal.coe_add, p1 _ h1]
    congr 2; omega
  rw [dif_neg h1]
  by_cases h2 : (i : ℕ) - 256 - 256 < 256
  · rw [dif_pos h2, b0 255 (by omega), b1 255 (by omega), b2 _ h2, p0 255 (by omega), ← EReal.coe_add, ← EReal.coe_add,
      p1 255 (by omega), p2 _ h2]
    congr 2; omega
  rw [dif_neg h2, b0 255 (by omega), b1 255 (by omega), b2 255 (by omega), b3 _ (by omega), p0 255 (by omega), ← EReal.coe_add,
    ← EReal.coe_add, ← EReal.coe_add, p1 255 (by omega), p2 255 (by omega), p3 _ (by omega)]
  congr 2; omega

/-- The integral image: the running sum of the column sums along the rows. -/
theorem integral_at (hx : ∀ r c : Fin 1024, v10 (ix4 0 0 r c) = (a r c : EReal)) (i j : Fin 1024) :
    k0_pay9 (F := Ideal) (k0_pay4 v10) (k0_pay5 v10) (k0_pay6 v10) (k0_pay7 v10) (k0_pay8 v10) (ix2 i j)
      = ((pre (fun q => pre (fun r => a r q) (i + 1)) (j + 1) : ℝ) : EReal) := by
  generalize hg : (fun q => pre (fun r => a r q) (i + 1)) = g
  have hc : ∀ q : Fin 1024, k0_pay3 (F := Ideal) v10 (ix2 i q) = (g q : EReal) := fun q => by rw [cols_at v10 a hx, ← hg]
  have b0 := fun r hr => sum_upper r hr (fun k => g (0 + k)) (fun k => k0_pay3 (F := Ideal) v10 (ix2 i ⟨k, by omega⟩)) fun k => by rw [hc]; simp
  have b1 := fun r hr => sum_upper r hr (fun k => g (256 + k)) (fun k => k0_pay3 (F := Ideal) v10 (ix2 i ⟨256 + k, by omega⟩)) fun k => hc _
  have b2 := fun r hr => sum_upper r hr (fun k => g (512 + k)) (fun k => k0_pay3 (F := Ideal) v10 (ix2 i ⟨512 + k, by omega⟩)) fun k => hc _
  have b3 := fun r hr => sum_upper r hr (fun k => g (768 + k)) (fun k => k0_pay3 (F := Ideal) v10 (ix2 i ⟨768 + k, by omega⟩)) fun k => hc _
  have p0 := fun r hr => pre_block g 0 r 256 hr
  have p1 := fun r hr => pre_block g 256 r 256 hr
  have p2 := fun r hr => pre_block g 512 r 256 hr
  have p3 := fun r hr => pre_block g 768 r 256 hr
  have e0 : pre g 0 = 0 := rfl
  simp only [e0, add_zero] at p0
  pointwise [k0_pay9, k0_pay4, k0_pay5, k0_pay6, k0_pay7, k0_pay8, k0_pay2]
  by_cases h0 : (j : ℕ) < 256
  · rw [dif_pos h0, b0 _ h0, p0 _ h0, Nat.zero_add]
  rw [dif_neg h0]
  by_cases h1 : (j : ℕ) - 256 < 256
  · rw [dif_pos h1, b0 255 (by omega), b1 _ h1, p0 255 (by omega), ← EReal.coe_add, p1 _ h1]
    congr 2; omega
  rw [dif_neg h1]
  by_cases h2 : (j : ℕ) - 256 - 256 < 256
  · rw [dif_pos h2, b0 255 (by omega), b1 255 (by omega), b2 _ h2, p0 255 (by omega), ← EReal.coe_add, ← EReal.coe_add,
      p1 255 (by omega), p2 _ h2]
    congr 2; omega
  rw [dif_neg h2, b0 255 (by omega), b1 255 (by omega), b2 255 (by omega), b3 _ (by omega), p0 255 (by omega), ← EReal.coe_add,
    ← EReal.coe_add, ← EReal.coe_add, p1 255 (by omega), p2 255 (by omega), p3 _ (by omega)]
  congr 2; omega

end Cert.Box

end
-- ==== Proof.Boxes.lean ====
module

public import proofs.«01_k».proof.Proof.Columns

@[expose] public section

set_option maxRecDepth 16384

/-!
# The two box sums of one block

The kernel's sum over the large box: a banded sum of the column sums, then a difference of two rows of it. Its sum over
the guard box: a difference of two rows of the integral image, then a difference of two columns of that.
-/

noncomputable section

open Idealize.ShloMosaic Idealize.ShloMosaic.TcCoe Idealize.SL.Sem
open Cert.KernelIdeal Cert.KernelIdeal.Gen

namespace Cert.Box

variable (v10 : Vec Ideal S1x1x1024x1024 .f32) (a : ℕ → ℕ → ℝ)

/-- The sum of `a` over the box of radius `p` around `(i, j)`. -/
def box (p : ℕ) (a : ℕ → ℕ → ℝ) (i j : ℕ) : ℝ := win p (fun r => win p (a r) j) i

/-- A band mask over a slab of `n` entries from `o` that holds the window of radius 160 around column `q + c`. -/
theorem sum_band (n o q c : ℕ) (hn : o + n ≤ 1024) (hc : q + c < 1024) (g : ℕ → ℝ) (F : Fin n → EReal) (hF : ∀ k : Fin n, F k = g (o + k))
    (ho : o ≤ q + c - 160) (hg : ∀ k, o + n ≤ k → k < q + c + 160 + 1 → g k = 0) :
    ∑ k : Fin n, Scalar.select (IntOp.cmpi .sle (IntOp.absi (IntOp.subi (IntOp.addi (BitVec.ofNat 32 k) (BitVec.ofNat 32 o))
      (IntOp.addi (BitVec.ofNat 32 c) (BitVec.ofNat 32 q)))) 160#32) (F k) 0 = ((win 160 g (q + c) : ℝ) : EReal) := by
  rw [← win_block 160 g o (q + c) n ho hg]
  refine sum_masked n (fun k => o + k ≤ q + c + 160 ∧ q + c ≤ o + k + 160) (fun k => g (o + k)) _ fun k => ?_
  rw [select_dist _ _ _ _ (by omega) (by omega), hF]

/-- The banded sum of the column sums over a slab of `n` columns from `o`, at column `j = q + c`: the prefix down to row `i`
    of the rows' window sums. -/
theorem slab (hx : ∀ r c : Fin 1024, v10 (ix4 0 0 r c) = (a r c : EReal)) (hc : ∀ r c, 1024 ≤ c → a r c = 0)
    (n o q c j : ℕ) (hj : q + c = j) (hj' : j < 1024) (hn : o + n ≤ 1024) (ho : o ≤ j - 160) (he : o + n = 1024 ∨ j + 161 ≤ o + n)
    (F : Fin n → Fin 1024) (hF : ∀ k, (F k : ℕ) = o + k) (i : Fin 1024) :
    ∑ k : Fin n, Scalar.select (IntOp.cmpi .sle (IntOp.absi (IntOp.subi (IntOp.addi (BitVec.ofNat 32 k) (BitVec.ofNat 32 o))
      (IntOp.addi (BitVec.ofNat 32 c) (BitVec.ofNat 32 q)))) 160#32) (k0_pay3 (F := Ideal) v10 (ix2 i (F k))) 0
      = ((pre (fun r => win 160 (a r) j) (i + 1) : ℝ) : EReal) := by
  subst hj
  rw [← win_pre]
  refine sum_band n o q c hn hj' (fun q => pre (fun r => a r q) (i + 1)) _ (fun k => ?_) ho fun k hk hk' => pre_zero _ _ fun r => hc r k ?_
  · rw [cols_at v10 a hx, hF]
  · omega

/-- Two rows `G` of prefixes at the ends of a window, the upper one held at the edge of the array, the lower one zero before
    it (spelt in two steps): their difference is the window's sum. -/
theorem ends (p n : ℕ) (hn : n + p = 1024) (g : ℕ → ℝ) (hg : ∀ r, 1024 ≤ r → g r = 0) (G : Fin 1024 → EReal)
    (hG : ∀ i, G i = ((pre g (i + 1) : ℝ) : EReal)) (i : Fin 1024) :
    (if h : (i : ℕ) < n then G ⟨p + i, by omega⟩ else G 1023)
      - (if h : (i : ℕ) < p then 0 else if h' : (i : ℕ) - p < 1 then 0 else G ⟨i - p - 1, by omega⟩) = ((win p g i : ℝ) : EReal) := by
  have hi : (if h : (i : ℕ) < n then G ⟨p + i, by omega⟩ else G 1023) = ((pre g (i + p + 1) : ℝ) : EReal) := by
    by_cases h : (i : ℕ) < n
    · rw [dif_pos h, hG, Nat.add_comm (i : ℕ) p]
    · rw [dif_neg h, hG, pre_of_le g 1024 (i + p + 1) hg (by omega)]
      rfl
  have hl : (if h : (i : ℕ) < p then 0 else if h' : (i : ℕ) - p < 1 then 0 else G ⟨i - p - 1, by omega⟩)
      = ((pre g (i - p) : ℝ) : EReal) := by
    by_cases h : (i : ℕ) < p
    · rw [dif_pos h, Nat.sub_eq_zero_of_le h.le]; rfl
    rw [dif_neg h]
    by_cases h' : (i : ℕ) - p < 1
    · rw [dif_pos h', Nat.lt_one_iff.1 h']; rfl
    · rw [dif_neg h', hG]
      congr 2
      show (i : ℕ) - p - 1 + 1 = i - p
      omega
  rw [hi, hl, ← EReal.coe_sub, pre_sub_pre]

/-- The same with the lower end spelt in one step. -/
theorem ends_one (p n m : ℕ) (hn : n + p = 1024) (hm : p + 1 = m) (g : ℕ → ℝ) (hg : ∀ r, 1024 ≤ r → g r = 0) (G : Fin 1024 → EReal)
    (hG : ∀ i, G i = ((pre g (i + 1) : ℝ) : EReal)) (i : Fin 1024) :
    (if h : (i : ℕ) < n then G ⟨p + i, by omega⟩ else G 1023)
      - (if h : (i : ℕ) < m then 0 else G ⟨i - m, by omega⟩) = ((win p g i : ℝ) : EReal) := by
  rw [← ends p n hn g hg G hG i]
  subst hm
  congr 1
  by_cases h : (i : ℕ) < p
  · rw [dif_pos h, dif_pos (by omega)]
  rw [dif_neg h]
  by_cases h' : (i : ℕ) - p < 1
  · rw [dif_pos h', dif_pos (by omega)]
  · rw [dif_neg h', dif_neg (by omega)]
    congr 2

/-- The kernel's sum over the large box. -/
theorem all_at (hx : ∀ r c : Fin 1024, v10 (ix4 0 0 r c) = (a r c : EReal)) (hr : ∀ r c, 1024 ≤ r → a r c = 0)
    (hc : ∀ r c, 1024 ≤ c → a r c = 0) (i j : Fin 1024) :
    k0_pay14 (F := Ideal) (k0_pay3 v10) (k0_pay11 (k0_pay3 v10)) (k0_pay12 (k0_pay3 v10)) k0_pay13 (ix2 i j)
      = ((box 160 a i j : ℝ) : EReal) := by
  have hg : ∀ r, 1024 ≤ r → win 160 (a r) j = 0 := fun r h => win_zero _ _ _ fun q => hr r q h
  pointwise [k0_pay14, k0_pay13, k0_pay11, k0_pay12]
  by_cases h0 : (j : ℕ) < 256
  · simp only [dif_pos h0]
    have s := slab v10 a hx hc 512 0 0 j j (by omega) j.isLt (by omega) (by omega) (by omega) (fun k => ⟨k, by omega⟩) (fun k => by simp)
    exact ends 160 864 rfl _ hg _ s i
  simp only [dif_neg h0]
  by_cases h1 : (j : ℕ) - 256 < 256
  · simp only [dif_pos h1]
    have s := slab v10 a hx hc 768 0 256 (j - 256) j (by omega) j.isLt (by omega) (by omega) (by omega) (fun k => ⟨k, by omega⟩) (fun k => by simp)
    exact ends 160 864 rfl _ hg _ s i
  simp only [dif_neg h1]
  by_cases h2 : (j : ℕ) - 256 - 256 < 256
  · simp only [dif_pos h2]
    have s := slab v10 a hx hc 768 256 512 (j - 256 - 256) j (by omega) j.isLt (by omega) (by omega) (by omega) (fun k => ⟨256 + k, by omega⟩) (fun k => rfl)
    exact ends 160 864 rfl _ hg _ s i
  simp only [dif_neg h2]
  have s := slab v10 a hx hc 512 512 768 (j - 256 - 256 - 256) j (by omega) j.isLt (by omega) (by omega) (by omega) (fun k => ⟨512 + k, by omega⟩) (fun k => rfl)
  exact ends 160 864 rfl _ hg _ s i

/-- The integral image of one block, by the kernel's own terms. -/
def integral : FVec Ideal S1024x1024 .f32 :=
  k0_pay9 (F := Ideal) (k0_pay4 v10) (k0_pay5 v10) (k0_pay6 v10) (k0_pay7 v10) (k0_pay8 v10)

/-- The integral image shifted down by one row, by the kernel's own terms. -/
def shifted : FVec Ideal S1024x1024 .f32 :=
  k0_pay10 (F := Ideal) (k0_pay4 v10) (k0_pay5 v10) (k0_pay6 v10) (k0_pay7 v10) (k0_pay8 v10)

/-- The difference of two rows of the integral image: the prefix along the row of the columns' window sums. -/
theorem rows_at (hx : ∀ r c : Fin 1024, v10 (ix4 0 0 r c) = (a r c : EReal)) (hr : ∀ r c, 1024 ≤ r → a r c = 0) (i j : Fin 1024) :
    k0_pay15 (F := Ideal) (integral v10) (shifted v10) (ix2 i j) = ((pre (fun q => win 80 (fun r => a r q) i) (j + 1) : ℝ) : EReal) := by
  have hs : ∀ i j : Fin 1024, integral v10 (ix2 i j) = ((pre (fun r => pre (a r) (j + 1)) (i + 1) : ℝ) : EReal) := fun i j => by
    rw [integral, integral_at v10 a hx, pre_pre]
  pointwise [k0_pay15, shifted, k0_pay10]
  refine (ends 80 944 rfl (fun r => pre (a r) (j + 1)) (fun r h => pre_zero _ _ fun q => hr r q h) (fun i => integral v10 (ix2 i j))
    (fun i => hs i j) i).trans ?_
  exact congrArg _ Finset.sum_comm

/-- The kernel's sum over the guard box, as the last payload computes it. -/
theorem front_at (hx : ∀ r c : Fin 1024, v10 (ix4 0 0 r c) = (a r c : EReal)) (hr : ∀ r c, 1024 ≤ r → a r c = 0)
    (hc : ∀ r c, 1024 ≤ c → a r c = 0) (V : FVec Ideal S1024x1024 .f32) (i j : Fin 1024) :
    k0_pay1 (F := Ideal) V (k0_pay15 (integral v10) (shifted v10)) (k0_pay16 (integral v10) (shifted v10))
      (k0_pay17 (integral v10) (shifted v10)) (ix4 0 0 i j)
      = ((box 80 a i j : ℝ) : EReal)
        * Ideal.div ((19742720 / 11944397 : ℝ) : EReal) (V (ix2 i j) - ((box 80 a i j : ℝ) : EReal)) := by
  have e := ends_one 80 944 81 rfl rfl (fun q => win 80 (fun r => a r q) i) (fun q h => win_zero _ _ _ fun r => hc r q h) _
    (fun j => rows_at v10 a hx hr i j) j
  rw [win_win] at e
  pointwise [k0_pay1, k0_pay16, k0_pay17]
  rw [box, ← e]
  rfl

end Cert.Box

end
-- ==== Proof.Windows.lean ====
module

public import proofs.«01_k».proof.Proof.Sums

@[expose] public section

set_option maxRecDepth 16384

/-!
# The reference's sliding windows

A host window sum with zero padding, read at an index: the window of radius `p` of the operand's row or column.
-/

noncomputable section

open Idealize.ShloMosaic

namespace Cert.Box

/-- Adding up a list in order is its sum. -/
theorem foldl_add {ι : Type} (l : List ι) (f : ι → EReal) : ∀ v : EReal, l.foldl (fun r n => r + f n) v = v + (l.map f).sum := by
  induction l with
  | nil => intro v; simp
  | cons n l ih => intro v; rw [List.foldl_cons, ih, List.map_cons, List.sum_cons, add_assoc]

/-- A host window sum from zero is the sum over the window's positions, the padding counting zero. -/
theorem reduceWindow_sum {s t u : Shape} (window strides lo hi : Fin s.rank → ℕ) (x : s.Idx → EReal) (init : u.Idx → EReal)
    (h : s.ReduceWindows window strides lo hi t) (hu : 0 < u.numel) (h0 : init (Shape.Idx.first hu) = 0) (j : t.Idx) :
    Host.reduceWindow (· + ·) window strides lo hi x init h hu j
      = ∑ w : (⟨s.rank, window⟩ : Shape).Idx,
          if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩) else 0 := by
  rw [Host.reduceWindow]
  dsimp only
  rw [foldl_add, h0, zero_add, ← Fin.sum_univ_def]
  convert Equiv.sum_comp (⟨s.rank, window⟩ : Shape).rowMajor.symm (fun w : (⟨s.rank, window⟩ : Shape).Idx =>
    if hin : ∀ a, lo a ≤ (j (a.cast h.1.symm)).val * strides a + (w a).val
      ∧ (j (a.cast h.1.symm)).val * strides a + (w a).val - lo a < s.size a
    then x (fun a => ⟨(j (a.cast h.1.symm)).val * strides a + (w a).val - lo a, (hin a).2⟩) else 0)

/-- The positions of a window that starts `p` before `i`, those before the array left out: the window's sum. -/
theorem sum_positions (p k : ℕ) (hk : k = 2 * p + 1) (g : ℕ → ℝ) (i : ℕ) :
    (∑ c ∈ Finset.range k, if p ≤ i + c then g (i + c - p) else 0) = win p g i := by
  subst hk
  have e := Finset.sum_Ico_eq_sum_range (fun m => if p ≤ m then g (m - p) else 0) i (i + (2 * p + 1))
  rw [Nat.add_sub_cancel_left] at e
  have e' : win p g i = ∑ m ∈ Finset.Ico (i - p + p) (i + p + 1 + p), if p ≤ m then g (m - p) else 0 := by
    rw [← Finset.sum_Ico_add', win]
    exact Finset.sum_congr rfl fun m _ => by rw [if_pos (Nat.le_add_left p m), Nat.add_sub_cancel]
  rw [← e, e']
  refine (Finset.sum_subset (fun m hm => ?_) fun m hm hm' => if_neg ?_).symm
  · rw [Finset.mem_Ico] at hm ⊢
    omega
  · rw [Finset.mem_Ico] at hm hm'
    omega

/-- The shape of a batch of images. -/
abbrev Batch : Shape := ⟨4, ![4, 1, 1024, 1024]⟩

/-- A window of rows: the sum of the column's entries around the row. -/
theorem rows_window {u : Shape} (p k : ℕ) (hk : k = 2 * p + 1) (x : FVec Ideal Batch .f32) (init : FVec Ideal u .f32)
    (h : Batch.ReduceWindows (![1, 1, k, 1] : Fin 4 → ℕ) ![1, 1, 1, 1] ![0, 0, p, 0] ![0, 0, p, 0] Batch) (hu : 0 < u.numel)
    (h0 : init (Shape.Idx.first hu) = (0 : EReal)) (f : ℕ → ℕ → ℝ) (hr : ∀ r c, 1024 ≤ r → f r c = 0) (b : Fin 4)
    (hx : ∀ r c : Fin 1024, x (ix4 b 0 r c) = (f r c : EReal)) (i j : Fin 1024) :
    Host.reduceWindowAdd (![1, 1, k, 1] : Fin 4 → ℕ) ![1, 1, 1, 1] ![0, 0, p, 0] ![0, 0, p, 0] x init h hu (ix4 b 0 i j)
      = ((win p (fun r => f r j) i : ℝ) : EReal) := by
  refine (reduceWindow_sum _ _ _ _ x (fun _ : (⟨0, ![]⟩ : Shape).Idx => init (Shape.Idx.first hu)) h (by decide) h0 _).trans ?_
  refine (sum_idx4 (n0 := 1) (n1 := 1) (n2 := k) (n3 := 1) _).trans ?_
  rw [Fintype.sum_unique, Fintype.sum_unique, ← sum_positions p k hk]
  refine (Finset.sum_congr rfl fun c _ => Fintype.sum_unique _).trans ?_
  refine sum_masked k (fun c => p ≤ i + c) (fun c => f (i + c - p) j) _ fun c => ?_
  split
  · next hin =>
    have h2 : p ≤ i.val * 1 + c.val ∧ i.val * 1 + c.val - p < 1024 := hin 2
    rw [if_pos (by omega)]
    refine Eq.trans (congrArg x (funext fun a => Fin.ext ?_)) (hx ⟨i + c - p, by omega⟩ j)
    match a with
    | ⟨0, _⟩ => show b.val * 1 + 0 - 0 = b.val; omega
    | ⟨1, _⟩ => rfl
    | ⟨2, _⟩ => show i.val * 1 + c.val - p = i.val + c.val - p; omega
    | ⟨3, _⟩ => show j.val * 1 + 0 - 0 = j.val; omega
  · next hin =>
    split
    · next hp =>
      rw [hr _ _ (not_lt.1 fun hlt => hin fun a => by
        match a with
        | ⟨0, _⟩ => show 0 ≤ b.val * 1 + 0 ∧ b.val * 1 + 0 - 0 < 4; omega
        | ⟨1, _⟩ => show 0 ≤ 0 * 1 + 0 ∧ 0 * 1 + 0 - 0 < 1; omega
        | ⟨2, _⟩ => show p ≤ i.val * 1 + c.val ∧ i.val * 1 + c.val - p < 1024; omega
        | ⟨3, _⟩ => show 0 ≤ j.val * 1 + 0 ∧ j.val * 1 + 0 - 0 < 1024; omega)]
      rfl
    · rfl

/-- A window of columns: the sum of the row's entries around the column. -/
theorem cols_window {u : Shape} (p k : ℕ) (hk : k = 2 * p + 1) (x : FVec Ideal Batch .f32) (init : FVec Ideal u .f32)
    (h : Batch.ReduceWindows (![1, 1, 1, k] : Fin 4 → ℕ) ![1, 1, 1, 1] ![0, 0, 0, p] ![0, 0, 0, p] Batch) (hu : 0 < u.numel)
    (h0 : init (Shape.Idx.first hu) = (0 : EReal)) (f : ℕ → ℕ → ℝ) (hc : ∀ r c, 1024 ≤ c → f r c = 0) (b : Fin 4)
    (hx : ∀ r c : Fin 1024, x (ix4 b 0 r c) = (f r c : EReal)) (i j : Fin 1024) :
    Host.reduceWindowAdd (![1, 1, 1, k] : Fin 4 → ℕ) ![1, 1, 1, 1] ![0, 0, 0, p] ![0, 0, 0, p] x init h hu (ix4 b 0 i j)
      = ((win p (f i) j : ℝ) : EReal) := by
  refine (reduceWindow_sum _ _ _ _ x (fun _ : (⟨0, ![]⟩ : Shape).Idx => init (Shape.Idx.first hu)) h (by decide) h0 _).trans ?_
  refine (sum_idx4 (n0 := 1) (n1 := 1) (n2 := 1) (n3 := k) _).trans ?_
  rw [Fintype.sum_unique, Fintype.sum_unique, Fintype.sum_unique, ← sum_positions p k hk]
  refine sum_masked k (fun c => p ≤ j + c) (fun c => f i (j + c - p)) _ fun c => ?_
  split
  · next hin =>
    have h2 : p ≤ j.val * 1 + c.val ∧ j.val * 1 + c.val - p < 1024 := hin 3
    rw [if_pos (by omega)]
    refine Eq.trans (congrArg x (funext fun a => Fin.ext ?_)) (hx i ⟨j + c - p, by omega⟩)
    match a with
    | ⟨0, _⟩ => show b.val * 1 + 0 - 0 = b.val; omega
    | ⟨1, _⟩ => rfl
    | ⟨2, _⟩ => show i.val * 1 + 0 - 0 = i.val; omega
    | ⟨3, _⟩ => show j.val * 1 + c.val - p = j.val + c.val - p; omega
  · next hin =>
    split
    · next hp =>
      rw [hc _ _ (not_lt.1 fun hlt => hin fun a => by
        match a with
        | ⟨0, _⟩ => show 0 ≤ b.val * 1 + 0 ∧ b.val * 1 + 0 - 0 < 4; omega
        | ⟨1, _⟩ => show 0 ≤ 0 * 1 + 0 ∧ 0 * 1 + 0 - 0 < 1; omega
        | ⟨2, _⟩ => show 0 ≤ i.val * 1 + 0 ∧ i.val * 1 + 0 - 0 < 1024; omega
        | ⟨3, _⟩ => show p ≤ j.val * 1 + c.val ∧ j.val * 1 + c.val - p < 1024; omega)]
      rfl
    · rfl

end Cert.Box

end
-- ==== Proof.Image.lean ====
module

public import proofs.«01_k».proof.Proof.Boxes
public import proofs.«01_k».proof.Proof.Windows

@[expose] public section

set_option maxRecDepth 16384

/-!
# One image of the batch as a real function, and the reference's box sums of it
-/

noncomputable section

open Idealize.ShloMosaic

namespace Cert.Box

/-- Every element of the batch is a real number. -/
def Finite (X : FVec Ideal Batch .f32) : Prop := ∀ i, X i ≠ (⊤ : EReal) ∧ X i ≠ (⊥ : EReal)

/-- Image `b` of the batch as a real function of row and column, zero outside the image. -/
def pix (X : FVec Ideal Batch .f32) (b : Fin 4) (r c : ℕ) : ℝ :=
  if h : r < 1024 ∧ c < 1024 then EReal.toReal (X (ix4 b 0 ⟨r, h.1⟩ ⟨c, h.2⟩)) else 0

/-- Below the image the function is zero. -/
theorem pix_rows (X : FVec Ideal Batch .f32) (b : Fin 4) (r c : ℕ) (h : 1024 ≤ r) : pix X b r c = 0 :=
  dif_neg fun h' => absurd h'.1 (not_lt.2 h)

/-- Right of the image the function is zero. -/
theorem pix_cols (X : FVec Ideal Batch .f32) (b : Fin 4) (r c : ℕ) (h : 1024 ≤ c) : pix X b r c = 0 :=
  dif_neg fun h' => absurd h'.2 (not_lt.2 h)

/-- Inside the image it is the batch's element. -/
theorem pix_at (X : FVec Ideal Batch .f32) (hX : Finite X) (b : Fin 4) (r c : Fin 1024) : X (ix4 b 0 r c) = (pix X b r c : EReal) := by
  rw [pix, dif_pos ⟨r.isLt, c.isLt⟩]
  exact (EReal.coe_toReal (hX _).1 (hX _).2).symm

/-- The reference's box sum: a window of rows, then a window of columns. -/
theorem box_at {u : Shape} (p k : ℕ) (hk : k = 2 * p + 1) (X : FVec Ideal Batch .f32) (hX : Finite X) (init init' : FVec Ideal u .f32)
    (h : Batch.ReduceWindows (![1, 1, k, 1] : Fin 4 → ℕ) ![1, 1, 1, 1] ![0, 0, p, 0] ![0, 0, p, 0] Batch)
    (h' : Batch.ReduceWindows (![1, 1, 1, k] : Fin 4 → ℕ) ![1, 1, 1, 1] ![0, 0, 0, p] ![0, 0, 0, p] Batch) (hu : 0 < u.numel)
    (h0 : init (Shape.Idx.first hu) = (0 : EReal)) (h0' : init' (Shape.Idx.first hu) = (0 : EReal)) (b : Fin 4) (i j : Fin 1024) :
    Host.reduceWindowAdd (![1, 1, 1, k] : Fin 4 → ℕ) ![1, 1, 1, 1] ![0, 0, 0, p] ![0, 0, 0, p]
        (Host.reduceWindowAdd (![1, 1, k, 1] : Fin 4 → ℕ) ![1, 1, 1, 1] ![0, 0, p, 0] ![0, 0, p, 0] X init h hu) init' h' hu (ix4 b 0 i j)
      = ((box p (pix X b) i j : ℝ) : EReal) := by
  refine (cols_window p k hk _ init' h' hu h0' (fun i c => win p (fun r => pix X b r c) i)
    (fun r c hc => win_zero _ _ _ fun r => pix_cols X b r c hc) b (fun r c => ?_) i j).trans ?_
  · exact rows_window p k hk X init h hu h0 (pix X b) (pix_rows X b) b (pix_at X hX b) r c
  · rw [box, win_win]

end Cert.Box

end
-- ==== Proof.Pre.lean ====
module

public import proofs.«01_k».proof.Proof.Gen.Pre_finite_and_no_zero_over_zero
public import proofs.«01_k».proof.Proof.Image
public import Idealize.ShloMosaic.Lib.ReduceAll

@[expose] public section

set_option maxRecDepth 16384

/-!
# What the precondition says

Every element is finite, and at every cell the guard box or the ring around it has a sum other than zero.
-/

noncomputable section

open Idealize.ShloMosaic

namespace Cert.Box

open Cert.Pre_finite_and_no_zero_over_zero Cert.Pre_finite_and_no_zero_over_zero.Gen

/-- A scalar has one index. -/
theorem scalar_subsingleton : Subsingleton (⟨0, ![]⟩ : Shape).Idx := ⟨fun _ _ => funext fun a => a.elim0⟩

/-- The bit pattern of infinity is the top of the extended reals. -/
theorem top_bits : Ideal.ofBits .f32 0x7F800000#32 = (⊤ : EReal) := by
  simp [Ideal.ofBits, Ideal.ieee]

/-- Below infinity in absolute value: a real number. -/
theorem finite_of_abs (x : EReal) (h : Ideal.cmp .olt (max x (-x)) ⊤ = 1#1) : x ≠ ⊤ ∧ x ≠ ⊥ := by
  constructor <;> rintro rfl <;> simp [Ideal.cmp] at h

/-- A comparison with zero that says unequal. -/
theorem ne_of_une (x : EReal) (h : Ideal.cmp .une x 0 = 1#1) : x ≠ 0 := by
  rintro rfl
  simp [Ideal.cmp] at h

/-- The precondition, read: all elements are finite, and nowhere are the guard sum and the ring sum both zero. -/
theorem pre_read [Cert.Pre_finite_and_no_zero_over_zero.Facts] (X : FVec Ideal Batch .f32)
    (h : Cert.Pre_finite_and_no_zero_over_zero.fn (F := Ideal) X = fun _ => 1#1) :
    Finite X ∧ ∀ (b : Fin 4) (i j : Fin 1024), box 80 (pix X b) i j ≠ 0 ∨ box 160 (pix X b) i j - box 80 (pix X b) i j ≠ 0 := by
  haveI := scalar_subsingleton
  have e := congrFun h ix0
  rw [Cert.Pre_finite_and_no_zero_over_zero.fn] at e
  dsimp only at e
  rw [Cert.Pre_finite_and_no_zero_over_zero.fn_part1] at e
  dsimp only at e
  obtain ⟨e1, e2⟩ := IntOp.andi_eq_one.1 e
  have hX : Finite X := fun i => by
    have := Host.reduce_andi_all _ _ _ _ _ e1 i
    refine finite_of_abs (X i) ?_
    rw [← top_bits]
    exact this
  refine ⟨hX, fun b i j => ?_⟩
  have e3 := IntOp.ori_eq_one.1 (Host.reduce_andi_all _ _ _ _ _ e2 (ix4 b 0 i j))
  have z : (broadcastInDim S_ ![] bcast_S_S_ (constant (F := Ideal) S_ .f32 0x00000000#32)) (Shape.Idx.first h_S_) = (0 : EReal) :=
    Ideal.ofBits_zero_f32
  have f80 := box_at 80 161 rfl X hX _ _ reduceWindows_S4x1x1024x1024_S4x1x1024x1024_w1s1p0_0_w1s1p0_0_w161s1p80_80_w1s1p0_0
    reduceWindows_S4x1x1024x1024_S4x1x1024x1024_w1s1p0_0_w1s1p0_0_w1s1p0_0_w161s1p80_80 h_S_ z z b i j
  have f160 := box_at 160 321 rfl X hX _ _ reduceWindows_S4x1x1024x1024_S4x1x1024x1024_w1s1p0_0_w1s1p0_0_w321s1p160_160_w1s1p0_0
    reduceWindows_S4x1x1024x1024_S4x1x1024x1024_w1s1p0_0_w1s1p0_0_w1s1p0_0_w321s1p160_160 h_S_ z z b i j
  rcases e3 with e3 | e3
  · left
    intro h0
    rw [h0] at f80
    refine ne_of_une _ ?_ f80
    rw [← Ideal.ofBits_zero_f32]
    exact e3
  · right
    intro h0
    have d := congrArg₂ (fun x y : EReal => x - y) f160 f80
    dsimp only at d
    rw [← EReal.coe_sub, h0] at d
    refine ne_of_une _ ?_ d
    rw [← Ideal.ofBits_zero_f32]
    exact e3

end Cert.Box

end
-- ==== Proof.Ratio.lean ====
module

public import proofs.«01_k».proof.Proof.Sums

@[expose] public section

/-!
# The two ratios

The kernel multiplies the guard sum by `scale / ring`; the reference divides the guard's mean by the ring's mean. They
are the same extended real wherever the guard sum and the ring sum are not both zero.
-/

noncomputable section

open Idealize.ShloMosaic

namespace Cert.Box

/-- `F · (scale / D)` is `(F / front_div) / (D / area)`, for real `F` and `D` that are not both zero. -/
theorem ratio (F D : ℝ) (h : F ≠ 0 ∨ D ≠ 0) :
    (F : EReal) * Ideal.div ((19742720 / 11944397 : ℝ) : EReal) (D : EReal)
      = Ideal.div (Ideal.div (F : EReal) ((11944397 / 256 : ℝ) : EReal)) (Ideal.div (D : EReal) ((77120 : ℝ) : EReal)) := by
  rw [Ideal.div_coe (by norm_num : (11944397 / 256 : ℝ) ≠ 0), Ideal.div_coe (by norm_num : (77120 : ℝ) ≠ 0), ← EReal.coe_mul, ← EReal.coe_mul]
  by_cases hD : D = 0
  · subst hD
    have hF : F ≠ 0 := h.resolve_right fun h => h rfl
    rw [zero_mul, EReal.coe_zero, Ideal.div, Ideal.div, if_pos rfl, if_pos rfl,
      if_pos (EReal.coe_pos.2 (by norm_num : (0 : ℝ) < 19742720 / 11944397))]
    rcases lt_or_gt_of_ne hF with hn | hp
    · rw [EReal.coe_mul_top_of_neg hn, if_neg (not_lt.2 (EReal.coe_nonpos.2 (mul_nonpos_of_nonpos_of_nonneg hn.le (by norm_num))))]
    · rw [EReal.coe_mul_top_of_pos hp, if_pos (EReal.coe_pos.2 (mul_pos hp (by norm_num)))]
  · rw [Ideal.div_coe hD, Ideal.div_coe (mul_ne_zero hD (by norm_num)), ← EReal.coe_mul, ← EReal.coe_mul, ← EReal.coe_mul, EReal.coe_eq_coe_iff]
    field_simp
    ring

/-- The reference's guard divisor, read from its bits. -/
theorem front_div_bits : Ideal.ofBits .f32 0x473641CD#32 = ((11944397 / 256 : ℝ) : EReal) := by
  simp [Ideal.ofBits, Ideal.ieee]
  rw [← EReal.coe_mul]
  norm_num

/-- The reference's ring area, read from its bits. -/
theorem area_bits : Ideal.ofBits .f32 0x4796A000#32 = ((77120 : ℝ) : EReal) := by
  simp [Ideal.ofBits, Ideal.ieee]
  rw [← EReal.coe_mul]
  norm_num

end Cert.Box

end
-- ==== Proof.Reference.lean ====
module

public import proofs.«01_k».proof.Proof.Gen.ReferenceIdeal.Run
public import proofs.«01_k».proof.Proof.Image
public import proofs.«01_k».proof.Proof.Ratio

@[expose] public section

set_option maxRecDepth 16384

/-!
# The reference's result at an index
-/

noncomputable section

open Idealize.ShloMosaic

namespace Cert.Box

/-- The map the kernel and the reference both compute: at each cell, the guard sum's mean over the ring sum's mean. -/
def ratioMap (X : FVec Ideal Batch .f32) : FVec Ideal Batch .f32 := fun y =>
  Ideal.div (Ideal.div ((box 80 (pix X (y 0)) (y 2).val (y 3).val : ℝ) : EReal) ((11944397 / 256 : ℝ) : EReal))
    (Ideal.div ((box 160 (pix X (y 0)) (y 2).val (y 3).val - box 80 (pix X (y 0)) (y 2).val (y 3).val : ℝ) : EReal) ((77120 : ℝ) : EReal))

open Cert.ReferenceIdeal Cert.ReferenceIdeal.Gen

/-- The sum over the guard box, as the reference writes it. -/
def refFront (X : FVec Ideal S4x1x1024x1024 .f32) : FVec Ideal S4x1x1024x1024 .f32 :=
  Host.reduceWindowAdd ![1, 1, 1, 161] ![1, 1, 1, 1] ![0, 0, 0, 80] ![0, 0, 0, 80]
    (Host.reduceWindowAdd ![1, 1, 161, 1] ![1, 1, 1, 1] ![0, 0, 80, 0] ![0, 0, 80, 0] X
      (broadcastInDim S_ ![] bcast_S_S_ (constant S_ .f32 0x00000000#32))
      reduceWindows_S4x1x1024x1024_S4x1x1024x1024_w1s1p0_0_w1s1p0_0_w161s1p80_80_w1s1p0_0 h_S_)
    (broadcastInDim S_ ![] bcast_S_S_ (constant S_ .f32 0x00000000#32))
    reduceWindows_S4x1x1024x1024_S4x1x1024x1024_w1s1p0_0_w1s1p0_0_w1s1p0_0_w161s1p80_80 h_S_

/-- The sum over the large box, as the reference writes it. -/
def refAll (X : FVec Ideal S4x1x1024x1024 .f32) : FVec Ideal S4x1x1024x1024 .f32 :=
  Host.reduceWindowAdd ![1, 1, 1, 321] ![1, 1, 1, 1] ![0, 0, 0, 160] ![0, 0, 0, 160]
    (Host.reduceWindowAdd ![1, 1, 321, 1] ![1, 1, 1, 1] ![0, 0, 160, 0] ![0, 0, 160, 0] X
      (broadcastInDim S_ ![] bcast_S_S_ (constant S_ .f32 0x00000000#32))
      reduceWindows_S4x1x1024x1024_S4x1x1024x1024_w1s1p0_0_w1s1p0_0_w321s1p160_160_w1s1p0_0 h_S_)
    (broadcastInDim S_ ![] bcast_S_S_ (constant S_ .f32 0x00000000#32))
    reduceWindows_S4x1x1024x1024_S4x1x1024x1024_w1s1p0_0_w1s1p0_0_w1s1p0_0_w321s1p160_160 h_S_

/-- The reference's whole result over its argument. -/
def refOut (X : FVec Ideal S4x1x1024x1024 .f32) : FVec Ideal S4x1x1024x1024 .f32 :=
  Host.divf (Host.divf (refFront X) (broadcastInDim S4x1x1024x1024 ![] bcast_S_S4x1x1024x1024 (constant S_ .f32 0x473641CD#32)))
    (Host.divf (subf (refAll X) (refFront X)) (broadcastInDim S4x1x1024x1024 ![] bcast_S_S4x1x1024x1024 (constant S_ .f32 0x4796A000#32)))

/-- On finite arguments the reference computes the map. -/
theorem refOut_eq (X : FVec Ideal S4x1x1024x1024 .f32) (hX : Finite X) : refOut X = ratioMap X := by
  funext y
  obtain ⟨b, z, i, j, rfl⟩ : ∃ (b : Fin 4) (z : Fin 1) (i j : Fin 1024), y = ix4 b z i j := ⟨y 0, y 1, y 2, y 3, eq_ix4 y⟩
  obtain rfl : z = 0 := Subsingleton.elim _ _
  have z : (broadcastInDim S_ ![] bcast_S_S_ (constant (F := Ideal) S_ .f32 0x00000000#32)) (Shape.Idx.first h_S_) = (0 : EReal) :=
    Ideal.ofBits_zero_f32
  have f : refFront X (ix4 b 0 i j) = ((box 80 (pix X b) i j : ℝ) : EReal) := box_at 80 161 rfl X hX _ _
    reduceWindows_S4x1x1024x1024_S4x1x1024x1024_w1s1p0_0_w1s1p0_0_w161s1p80_80_w1s1p0_0
    reduceWindows_S4x1x1024x1024_S4x1x1024x1024_w1s1p0_0_w1s1p0_0_w1s1p0_0_w161s1p80_80 h_S_ z z b i j
  have g : refAll X (ix4 b 0 i j) = ((box 160 (pix X b) i j : ℝ) : EReal) := box_at 160 321 rfl X hX _ _
    reduceWindows_S4x1x1024x1024_S4x1x1024x1024_w1s1p0_0_w1s1p0_0_w321s1p160_160_w1s1p0_0
    reduceWindows_S4x1x1024x1024_S4x1x1024x1024_w1s1p0_0_w1s1p0_0_w1s1p0_0_w321s1p160_160 h_S_ z z b i j
  show Ideal.div (Ideal.div (refFront X (ix4 b 0 i j)) (Ideal.ofBits .f32 0x473641CD#32))
    (Ideal.div (refAll X (ix4 b 0 i j) - refFront X (ix4 b 0 i j)) (Ideal.ofBits .f32 0x4796A000#32))
    = Ideal.div (Ideal.div ((box 80 (pix X b) i j : ℝ) : EReal) ((11944397 / 256 : ℝ) : EReal))
        (Ideal.div ((box 160 (pix X b) i j - box 80 (pix X b) i j : ℝ) : EReal) ((77120 : ℝ) : EReal))
  rw [f, g, front_div_bits, area_bits, EReal.coe_sub]

end Cert.Box

end
-- ==== Proof.Final.lean ====
module

public import proofs.«01_k».proof.Proof.Gen.KernelIdeal.Value
public import proofs.«01_k».proof.Proof.Reference
public import Idealize.ShloMosaic.Lib.Pipeline.ValueKit

@[expose] public section

set_option maxRecDepth 16384

/-!
# The kernel's result array

Grid point `t` stages image `t` of the batch and writes image `t` of the result: the map both programs compute.
-/

noncomputable section

open Idealize.ShloMosaic Idealize.ShloMosaic.TcCoe Idealize.SL.Sem
open Idealize.ShloMosaic.Pipeline (Dat)
open Cert.KernelIdeal Cert.KernelIdeal.Gen

namespace Cert.Box

variable (m : (ℓ : Loc nD τ sig) → Buf (Elt Ideal) ℓ)

/-- What the kernel stores for one image, at an index. -/
theorem image_at (X : FVec Ideal Batch .f32) (hX : Finite X) (b : Fin 4) (v10 : Vec Ideal S1x1x1024x1024 .f32)
    (hv : ∀ r c : Fin 1024, v10 (ix4 0 0 r c) = X (ix4 b 0 r c))
    (hz : ∀ (i j : Fin 1024), box 80 (pix X b) i j ≠ 0 ∨ box 160 (pix X b) i j - box 80 (pix X b) i j ≠ 0) (i j : Fin 1024) :
    k0_pay1 (F := Ideal) (k0_pay14 (k0_pay3 v10) (k0_pay11 (k0_pay3 v10)) (k0_pay12 (k0_pay3 v10)) k0_pay13)
      (k0_pay15 (integral v10) (shifted v10)) (k0_pay16 (integral v10) (shifted v10)) (k0_pay17 (integral v10) (shifted v10)) (ix4 0 0 i j)
      = ratioMap X (ix4 b 0 i j) := by
  have hx : ∀ r c : Fin 1024, v10 (ix4 0 0 r c) = (pix X b r c : EReal) := fun r c => (hv r c).trans (pix_at X hX b r c)
  rw [front_at v10 (pix X b) hx (pix_rows X b) (pix_cols X b), all_at v10 (pix X b) hx (pix_rows X b) (pix_cols X b), ← EReal.coe_sub]
  exact ratio _ _ (hz i j)

/-- The windows' index maps: point `t` is image `t`. -/
theorem idx_val : ∀ t : Fin cfg0.N, win0_0.index t = ![t.val, 0, 0, 0] ∧ win0_1.index t = ![t.val, 0, 0, 0] ∧ t.val < 4 :=
  (by decide +kernel : ∀ t : Fin grid0.N, _)

/-- The staged block at point `t` is image `t`. -/
theorem staged (c : Dev nD) (t : Fin cfg0.N) (ht : t.val < 4) (r q : Fin 1024) :
    iblk m c 0 t (ix4 0 0 r q) = m ((c : Thread nD τ).loc main_arg0) (ix4 (⟨t.val, ht⟩ : Fin 4) 0 r q) := by
  blk_ext [iblk, V, idx_val t]

/-- The image, as the body loads it. -/
theorem load_image (v10 : Vec Ideal S1x1x1024x1024 .f32) : k0_pay18 v10 = k0_pay3 v10 := by
  unfold k0_pay18
  frame_out

/-- The prefix sums, as the body holds them. -/
theorem load_integral (v10 : Vec Ideal S1x1x1024x1024 .f32) : k0_pay24 v10 = integral v10 := by
  unfold k0_pay24 k0_pay23 k0_pay22 k0_pay21 k0_pay20 k0_pay19 integral
  frame_out

/-- The shifted prefix sums, as the body holds them. -/
theorem load_shifted (v10 : Vec Ideal S1x1x1024x1024 .f32) : k0_pay25 v10 = shifted v10 := by
  unfold k0_pay25 k0_pay23 k0_pay22 k0_pay21 k0_pay20 k0_pay19 shifted
  frame_out

/-- What point `t` stores, at an index of its block. -/
theorem point (c : Dev nD) (hX : Finite (m ((c : Thread nD τ).loc main_arg0)))
    (hz : ∀ (b : Fin 4) (i j : Fin 1024), box 80 (pix (m ((c : Thread nD τ).loc main_arg0)) b) i j ≠ 0
      ∨ box 160 (pix (m ((c : Thread nD τ).loc main_arg0)) b) i j - box 80 (pix (m ((c : Thread nD τ).loc main_arg0)) b) i j ≠ 0)
    (t : Fin cfg0.N) (y : S1x1x1024x1024.Idx) :
    k0_pay1 (F := Ideal) (k0_pay14 (k0_pay3 (iblk m c 0 t)) (k0_pay11 (k0_pay3 (iblk m c 0 t))) (k0_pay12 (k0_pay3 (iblk m c 0 t))) k0_pay13)
      (k0_pay15 (integral (iblk m c 0 t)) (shifted (iblk m c 0 t))) (k0_pay16 (integral (iblk m c 0 t)) (shifted (iblk m c 0 t)))
      (k0_pay17 (integral (iblk m c 0 t)) (shifted (iblk m c 0 t))) y
      = ratioMap (m ((c : Thread nD τ).loc main_arg0)) (((View.whole main_v0).slice (win0_1.rect t)).emb y) := by
  have ht := (idx_val t).2.2
  obtain ⟨a, b, i, j, rfl⟩ : ∃ (a b : Fin 1) (i j : Fin 1024), y = ix4 a b i j := ⟨y 0, y 1, y 2, y 3, eq_ix4 y⟩
  obtain rfl : a = 0 := Subsingleton.elim _ _
  obtain rfl : b = 0 := Subsingleton.elim _ _
  refine (image_at _ hX ⟨t.val, ht⟩ (iblk m c 0 t) (staged m c t ht) (hz ⟨t.val, ht⟩) i j).trans ?_
  generalize ratioMap (m ((c : Thread nD τ).loc main_arg0)) = R
  blk_ext [idx_val t]

/-- The result array after the run. -/
theorem final (c : Dev nD) (hX : Finite (m ((c : Thread nD τ).loc main_arg0)))
    (hz : ∀ (b : Fin 4) (i j : Fin 1024), box 80 (pix (m ((c : Thread nD τ).loc main_arg0)) b) i j ≠ 0
      ∨ box 160 (pix (m ((c : Thread nD τ).loc main_arg0)) b) i j - box 80 (pix (m ((c : Thread nD τ).loc main_arg0)) b) i j ≠ 0) :
    (dats m 0 c).arrAt 1 (cfgs 0).N = ratioMap (m ((c : Thread nD τ).loc main_arg0)) := by
  refine (dats m 0 c).arrAt_eq_of_covers 1 _ (by decide +kernel) fun t _ y => ?_
  blk_simp
  rw [after0_1]
  frame_out
  rw [load_image, load_integral, load_shifted]
  exact point m c hX hz t y

end Cert.Box

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_no_zero_over_zero
public import proofs.«01_k».proof.Proof.Gen.KernelIdeal.Value
public import proofs.«01_k».proof.Proof.Gen.ReferenceIdeal.Run
public import proofs.«01_k».proof.Proof.Pre
public import proofs.«01_k».proof.Proof.Final
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, keeps its argument and leaves every semaphore at zero. -/
theorem frame_reference [Cert.ReferenceIdeal.Facts] : Cert.quiescent_ReferenceIdeal := by
  intro m g _
  exact (θ_run Cert.ReferenceIdeal.defs _ _).mono (fun r h => ⟨fun c => (h c).2,
    sem_eq_zero_of_no_sems (by decide) r.2⟩) (Cert.ReferenceIdeal.Value.run m g)

/-- From memories that agree on the argument and meet the precondition, kernel and reference end with equal results. -/
theorem algebraic [Cert.KernelIdeal.Facts] [Cert.ReferenceIdeal.Facts] [Cert.Pre_finite_and_no_zero_over_zero.Facts] :
    Cert.algebraic_KernelIdeal_ReferenceIdeal_pre_finite_and_no_zero_over_zero := by
  intro m g m' g' hpre hargs
  refine ⟨fun c => Cert.Box.ratioMap (m ((c.tc : Thread Cert.KernelIdeal.nD Cert.KernelIdeal.τ).loc Cert.KernelIdeal.main_arg0)), ?_, ?_⟩
  · refine (θ_run _ _ _).mono (fun r h c => ⟨(h c).1.trans ?_, (h c).2⟩) (Cert.KernelIdeal.Value.run_blocks m g)
    obtain ⟨hX, hz⟩ := Cert.Box.pre_read _ (hpre c)
    exact Cert.Box.final m c hX hz
  · refine (θ_run _ _ _).mono (fun r h c => ⟨(h c).1.trans ?_, (h c).2⟩) (Cert.ReferenceIdeal.Value.run m' g')
    obtain ⟨hX, hz⟩ := Cert.Box.pre_read _ (hpre c)
    rw [hargs c]
    exact Cert.Box.refOut_eq _ hX

theorem claim : Cert.Claim := ⟨Cert.Kernel.Gen.facts, Cert.KernelIdeal.Gen.facts, Cert.ReferenceIdeal.Gen.facts, Cert.Pre_finite_and_no_zero_over_zero.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  IdealRules.named_const.statement Cert.KernelIdeal.κ "scale" .f32 0x3FD391C0#32 ((19742720 / 11944397 : ℝ) : EReal) rfl, algebraic⟩

end Cert.Proof

end
